-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_action [hPre_finite_action : Cert.Pre_finite_action.Facts] (m : (ℓ : Loc Cert.KernelIdeal.nD Cert.KernelIdeal.τ Cert.KernelIdeal.sig) → Buf (Elt Ideal) ℓ) : Prop :=
  ∀ c : Dev Cert.KernelIdeal.nD,
    (Cert.Pre_finite_action.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_action [hPre_finite_action : Cert.Pre_finite_action.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_action.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_action [hKernelIdeal : Cert.KernelIdeal.Facts] [hPre_finite_action : Cert.Pre_finite_action.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_action m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_action [hReferenceIdeal : Cert.ReferenceIdeal.Facts] [hPre_finite_action : Cert.Pre_finite_action.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_action m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_action [hKernelIdeal : Cert.KernelIdeal.Facts] [hReferenceIdeal : Cert.ReferenceIdeal.Facts] [hPre_finite_action : Cert.Pre_finite_action.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_action m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_action : Cert.Pre_finite_action.Facts),
    quiescent_Kernel (hKernel := hKernel)
    ∧ quiescent_KernelIdeal (hKernelIdeal := hKernelIdeal)
    ∧ quiescent_KernelIdeal_pre_finite_action (hKernelIdeal := hKernelIdeal) (hPre_finite_action := hPre_finite_action)
    ∧ quiescent_ReferenceIdeal (hReferenceIdeal := hReferenceIdeal)
    ∧ quiescent_ReferenceIdeal_pre_finite_action (hReferenceIdeal := hReferenceIdeal) (hPre_finite_action := hPre_finite_action)
    ∧ preserves_Kernel_KernelIdeal
    ∧ algebraic_KernelIdeal_ReferenceIdeal_pre_finite_action (hKernelIdeal := hKernelIdeal) (hReferenceIdeal := hReferenceIdeal) (hPre_finite_action := hPre_finite_action)
-- ==== Pre_finite_action.lean ====
abbrev S4096x512x3 : Shape := ⟨3, ![4096, 512, 3]⟩
abbrev S512x512 : Shape := ⟨2, ![512, 512]⟩
abbrev S512x512x8 : Shape := ⟨3, ![512, 512, 8]⟩
abbrev S512x1 : Shape := ⟨2, ![512, 1]⟩
abbrev S_ : Shape := ⟨0, ![]⟩

class Facts : Prop where
  bcast_S_S512x512x8 : S_.BroadcastsInDim S512x512x8 (![] : Fin 0 → Fin S512x512x8.rank)
  reducesTo_S512x512x8_S_d0_1_2 : S512x512x8.ReducesTo [0, 1, 2] S_
  h_S_ : 0 < S_.numel

variable [Facts]

def fn {F : FTy → Type} [FloatOps F] (main_arg0 : FVec F S4096x512x3 .f32) (main_arg1 : FVec F S512x512 .f32) (main_arg2 : FVec F S512x512x8 .f32) (main_arg3 : FVec F S512x1 .f32) : IVec S_ 1 :=
  let main_v0 : FVec F S512x512x8 .f32 := Host.absf main_arg2
  let main_cst : FVec F S_ .f32 := constant S_ .f32 0x7F800000#32
  let main_v1 : FVec F S512x512x8 .f32 := broadcastInDim S512x512x8 ![] bcast_S_S512x512x8 main_cst
  let main_v2 : IVec S512x512x8 1 := cmpf .olt main_v0 main_v1
  let main_c : IVec S_ 1 := constantI S_ 1 1#1
  let main_v3 : IVec S_ 1 := (fun x v => Host.reduce IntOp.andi x v reducesTo_S512x512x8_S_d0_1_2 h_S_) main_v2 main_c
  main_v3
-- ==== Kernel.lean ====
abbrev S4096x512x3 : Shape := ⟨3, ![4096, 512, 3]⟩
abbrev S512x512 : Shape := ⟨2, ![512, 512]⟩
abbrev S512x512x8 : Shape := ⟨3, ![512, 512, 8]⟩
abbrev S512x1 : Shape := ⟨2, ![512, 1]⟩
abbrev S8x512x512 : Shape := ⟨3, ![8, 512, 512]⟩
abbrev S8x512 : Shape := ⟨2, ![8, 512]⟩
abbrev S8x512x256 : Shape := ⟨3, ![8, 512, 256]⟩
abbrev S512x256 : Shape := ⟨2, ![512, 256]⟩
abbrev S8x256 : Shape := ⟨2, ![8, 256]⟩
abbrev S1x512x256 : Shape := ⟨3, ![1, 512, 256]⟩
abbrev S256 : Shape := ⟨1, ![256]⟩
abbrev S1x256 : Shape := ⟨2, ![1, 256]⟩
abbrev S5x256 : Shape := ⟨2, ![5, 256]⟩
abbrev S3x3 : Shape := ⟨2, ![3, 3]⟩
abbrev S_ : Shape := ⟨0, ![]⟩
abbrev S512x1x512x1 : Shape := ⟨4, ![512, 1, 512, 1]⟩
abbrev S1x3x1x3 : Shape := ⟨4, ![1, 3, 1, 3]⟩
abbrev S512x3x512x3 : Shape := ⟨4, ![512, 3, 512, 3]⟩
abbrev S1536x1536 : Shape := ⟨2, ![1536, 1536]⟩
abbrev S3x512 : Shape := ⟨2, ![3, 512]⟩
abbrev S512x3 : Shape := ⟨2, ![512, 3]⟩
abbrev S1x1536 : Shape := ⟨2, ![1, 1536]⟩
abbrev S4096x1536 : Shape := ⟨2, ![4096, 1536]⟩
abbrev S512x1536 : Shape := ⟨2, ![512, 1536]⟩

abbrev nBuf : Space → Nat
  | .hbm => 27
  | .vmem => 15
  | .smem => 0
  | _ => 0

abbrev bufTy : (tb : Table) → Fin (tcTables nBuf tb) → BufTy
  | .hbm, ⟨0, _⟩ => ⟨S4096x512x3, .f32⟩
  | .hbm, ⟨1, _⟩ => ⟨S512x512, .f32⟩
  | .hbm, ⟨2, _⟩ => ⟨S512x512x8, .f32⟩
  | .hbm, ⟨3, _⟩ => ⟨S512x1, .f32⟩
  | .hbm, ⟨4, _⟩ => ⟨S8x512x512, .f32⟩
  | .hbm, ⟨5, _⟩ => ⟨S512x512, .f32⟩
  | .hbm, ⟨6, _⟩ => ⟨S512x512, .f32⟩
  | .hbm, ⟨7, _⟩ => ⟨S8x512, .f32⟩
  | .hbm, ⟨8, _⟩ => ⟨S3x3, .i32⟩
  | .hbm, ⟨9, _⟩ => ⟨S3x3, .i32⟩
  | .hbm, ⟨10, _⟩ => ⟨S_, .i32⟩
  | .hbm, ⟨11, _⟩ => ⟨S3x3, .i32⟩
  | .hbm, ⟨12, _⟩ => ⟨S3x3, .i32⟩
  | .hbm, ⟨13, _⟩ => ⟨S3x3, .i1⟩
  | .hbm, ⟨14, _⟩ => ⟨S3x3, .f32⟩
  | .hbm, ⟨15, _⟩ => ⟨S512x1x512x1, .f32⟩
  | .hbm, ⟨16, _⟩ => ⟨S1x3x1x3, .f32⟩
  | .hbm, ⟨17, _⟩ => ⟨S512x3x512x3, .f32⟩
  | .hbm, ⟨18, _⟩ => ⟨S512x3x512x3, .f32⟩
  | .hbm, ⟨19, _⟩ => ⟨S512x3x512x3, .f32⟩
  | .hbm, ⟨20, _⟩ => ⟨S1536x1536, .f32⟩
  | .hbm, ⟨21, _⟩ => ⟨S3x512, .f32⟩
  | .hbm, ⟨22, _⟩ => ⟨S512x3, .f32⟩
  | .hbm, ⟨23, _⟩ => ⟨S1x1536, .f32⟩
  | .hbm, ⟨24, _⟩ => ⟨S4096x1536, .f32⟩
  | .hbm, ⟨25, _⟩ => ⟨S4096x1536, .f32⟩
  | .hbm, ⟨26, _⟩ => ⟨S4096x512x3, .f32⟩
  | .local _ .vmem, ⟨0, _⟩ => ⟨S8x512x256, .f32⟩
  | .local _ .vmem, ⟨1, _⟩ => ⟨S8x512x256, .f32⟩
  | .local _ .vmem, ⟨2, _⟩ => ⟨S512x256, .f32⟩
  | .local _ .vmem, ⟨3, _⟩ => ⟨S512x256, .f32⟩
  | .local _ .vmem, ⟨4, _⟩ => ⟨S512x1, .f32⟩
  | .local _ .vmem, ⟨5, _⟩ => ⟨S512x256, .f32⟩
  | .local _ .vmem, ⟨6, _⟩ => ⟨S512x256, .f32⟩
  | .local _ .vmem, ⟨7, _⟩ => ⟨S8x256, .f32⟩
  | .local _ .vmem, ⟨8, _⟩ => ⟨S8x256, .f32⟩
  | .local _ .vmem, ⟨9, _⟩ => ⟨S512x1536, .f32⟩
  | .local _ .vmem, ⟨10, _⟩ => ⟨S512x1536, .f32⟩
  | .local _ .vmem, ⟨11, _⟩ => ⟨S1536x1536, .f32⟩
  | .local _ .vmem, ⟨12, _⟩ => ⟨S1x1536, .f32⟩
  | .local _ .vmem, ⟨13, _⟩ => ⟨S512x1536, .f32⟩
  | .local _ .vmem, ⟨14, _⟩ => ⟨S512x1536, .f32⟩
  | _, _ => ⟨S4096x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1536 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1536x1536 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1536 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1536 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S4096x512x3 : Shape := ⟨3, ![4096, 512, 3]⟩
abbrev S512x512 : Shape := ⟨2, ![512, 512]⟩
abbrev S512x512x8 : Shape := ⟨3, ![512, 512, 8]⟩
abbrev S512x1 : Shape := ⟨2, ![512, 1]⟩
abbrev S16x16x16 : Shape := ⟨3, ![16, 16, 16]⟩
abbrev S16 : Shape := ⟨1, ![16]⟩
abbrev S8 : Shape := ⟨1, ![8]⟩
abbrev S3 : Shape := ⟨1, ![3]⟩
abbrev S_ : Shape := ⟨0, ![]⟩
abbrev S512x512x16 : Shape := ⟨3, ![512, 512, 16]⟩
abbrev S8x1 : Shape := ⟨2, ![8, 1]⟩
abbrev S1x1x16 : Shape := ⟨3, ![1, 1, 16]⟩
abbrev S4096x512x16 : Shape := ⟨3, ![4096, 512, 16]⟩
abbrev S3x1 : Shape := ⟨2, ![3, 1]⟩
abbrev S512 : Shape := ⟨1, ![512]⟩
abbrev S4096x512 : Shape := ⟨2, ![4096, 512]⟩
abbrev S1 : Shape := ⟨1, ![1]⟩
abbrev S512x512x16x16 : Shape := ⟨4, ![512, 512, 16, 16]⟩
abbrev S16x512x16x512 : Shape := ⟨4, ![16, 512, 16, 512]⟩
abbrev S1x512x1x512 : Shape := ⟨4, ![1, 512, 1, 512]⟩
abbrev S4096x16x512 : Shape := ⟨3, ![4096, 16, 512]⟩

abbrev nBuf : Space → Nat
  | .hbm => 58
  | .vmem => 0
  | .smem => 0
  | _ => 0

abbrev bufTy : (tb : Table) → Fin (tcTables nBuf tb) → BufTy
  | .hbm, ⟨0, _⟩ => ⟨S4096x512x3, .f32⟩
  | .hbm, ⟨1, _⟩ => ⟨S512x512, .f32⟩
  | .hbm, ⟨2, _⟩ => ⟨S512x512x8, .f32⟩
  | .hbm, ⟨3, _⟩ => ⟨S512x1, .f32⟩
  | .hbm, ⟨4, _⟩ => ⟨S16x16x16, .f32⟩
  | .hbm, ⟨5, _⟩ => ⟨S16, .f32⟩
  | .hbm, ⟨6, _⟩ => ⟨S8, .i32⟩
  | .hbm, ⟨7, _⟩ => ⟨S3, .i32⟩
  | .hbm, ⟨8, _⟩ => ⟨S_, .f32⟩
  | .hbm, ⟨9, _⟩ => ⟨S512x512x16, .f32⟩
  | .hbm, ⟨10, _⟩ => ⟨S_, .i32⟩
  | .hbm, ⟨11, _⟩ => ⟨S8, .i32⟩
  | .hbm, ⟨12, _⟩ => ⟨S8, .i1⟩
  | .hbm, ⟨13, _⟩ => ⟨S_, .i32⟩
  | .hbm, ⟨14, _⟩ => ⟨S8, .i32⟩
  | .hbm, ⟨15, _⟩ => ⟨S8, .i32⟩
  | .hbm, ⟨16, _⟩ => ⟨S8, .i32⟩
  | .hbm, ⟨17, _⟩ => ⟨S8x1, .i32⟩
  | .hbm, ⟨18, _⟩ => ⟨S512x512x16, .f32⟩
  | .hbm, ⟨19, _⟩ => ⟨S1x1x16, .f32⟩
  | .hbm, ⟨20, _⟩ => ⟨S512x512x16, .f32⟩
  | .hbm, ⟨21, _⟩ => ⟨S512x512x16, .f32⟩
  | .hbm, ⟨22, _⟩ => ⟨S_, .f32⟩
  | .hbm, ⟨23, _⟩ => ⟨S4096x512x16, .f32⟩
  | .hbm, ⟨24, _⟩ => ⟨S_, .i32⟩
  | .hbm, ⟨25, _⟩ => ⟨S3, .i32⟩
  | .hbm, ⟨26, _⟩ => ⟨S3, .i1⟩
  | .hbm, ⟨27, _⟩ => ⟨S_, .i32⟩
  | .hbm, ⟨28, _⟩ => ⟨S3, .i32⟩
  | .hbm, ⟨29, _⟩ => ⟨S3, .i32⟩
  | .hbm, ⟨30, _⟩ => ⟨S3, .i32⟩
  | .hbm, ⟨31, _⟩ => ⟨S3x1, .i32⟩
  | .hbm, ⟨32, _⟩ => ⟨S4096x512x16, .f32⟩
  | .hbm, ⟨33, _⟩ => ⟨S512, .f32⟩
  | .hbm, ⟨34, _⟩ => ⟨S4096x512, .f32⟩
  | .hbm, ⟨35, _⟩ => ⟨S_, .i32⟩
  | .hbm, ⟨36, _⟩ => ⟨S1, .i32⟩
  | .hbm, ⟨37, _⟩ => ⟨S4096x512x16, .f32⟩
  | .hbm, ⟨38, _⟩ => ⟨S512x512x16x16, .f32⟩
  | .hbm, ⟨39, _⟩ => ⟨S16x512x16x512, .f32⟩
  | .hbm, ⟨40, _⟩ => ⟨S512x512x16x16, .f32⟩
  | .hbm, ⟨41, _⟩ => ⟨S16x512x16x512, .f32⟩
  | .hbm, ⟨42, _⟩ => ⟨S512x512x16x16, .f32⟩
  | .hbm, ⟨43, _⟩ => ⟨S16x512x16x512, .f32⟩
  | .hbm, ⟨44, _⟩ => ⟨S1x512x1x512, .f32⟩
  | .hbm, ⟨45, _⟩ => ⟨S16x512x16x512, .f32⟩
  | .hbm, ⟨46, _⟩ => ⟨S16x512x16x512, .f32⟩
  | .hbm, ⟨47, _⟩ => ⟨S4096x16x512, .f32⟩
  | .hbm, ⟨48, _⟩ => ⟨S4096x512x16, .f32⟩
  | .hbm, ⟨49, _⟩ => ⟨S_, .i32⟩
  | .hbm, ⟨50, _⟩ => ⟨S3, .i32⟩
  | .hbm, ⟨51, _⟩ => ⟨S3, .i1⟩
  | .hbm, ⟨52, _⟩ => ⟨S_, .i32⟩
  | .hbm, ⟨53, _⟩ => ⟨S3, .i32⟩
  | .hbm, ⟨54, _⟩ => ⟨S3, .i32⟩
  | .hbm, ⟨55, _⟩ => ⟨S3, .i32⟩
  | .hbm, ⟨56, _⟩ => ⟨S3x1, .i32⟩
  | .hbm, ⟨57, _⟩ => ⟨S4096x512x3, .f32⟩
  | _, _ => ⟨S4096x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_c : Ref sig .tc := ⟨.hbm, 6, rfl⟩
abbrev main_c_1 : Ref sig .tc := ⟨.hbm, 7, rfl⟩
abbrev main_cst_2 : Ref sig .tc := ⟨.hbm, 8, rfl⟩
abbrev main_v0 : Ref sig .tc := ⟨.hbm, 9, rfl⟩
abbrev main_c_3 : Ref sig .tc := ⟨.hbm, 10, rfl⟩
abbrev main_v1 : Ref sig .tc := ⟨.hbm, 11, rfl⟩
abbrev main_v2 : Ref sig .tc := ⟨.hbm, 12, rfl⟩
abbrev main_c_4 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_5 : Ref sig .tc := ⟨.hbm, 22, rfl⟩
abbrev main_v11 : Ref sig .tc := ⟨.hbm, 23, rfl⟩
abbrev main_c_6 : Ref sig .tc := ⟨.hbm, 24, rfl⟩
abbrev main_v12 : Ref sig .tc := ⟨.hbm, 25, rfl⟩
abbrev main_v13 : Ref sig .tc := ⟨.hbm, 26, rfl⟩
abbrev main_c_7 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_8 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_9 : Ref sig .tc := ⟨.hbm, 49, rfl⟩
abbrev main_v34 : Ref sig .tc := ⟨.hbm, 50, rfl⟩
abbrev main_v35 : Ref sig .tc := ⟨.hbm, 51, rfl⟩
abbrev main_c_10 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]
-- ==== Proof.Blades.lean ====
/-
  The geometric product on the sixteen blades of the algebra with metric (0, 1, 1, 1), as signs, and the quadratic forms
  of a sandwich product: the coefficients of its diagonal and of the three forms that the plane constant is multiplied by.
-/
module

public import Mathlib.Data.Real.Basic
public import Mathlib.Data.Fin.VecNotation
public import Mathlib.Algebra.BigOperators.Group.Finset.Basic
public import Mathlib.Algebra.BigOperators.Ring.Finset
public import Mathlib.Algebra.BigOperators.Fin
public import Mathlib.Tactic.Ring
public import Mathlib.Tactic.Linarith

@[expose] public section

set_option maxRecDepth 16384

namespace Cert.PgaLinear

/-- The generators of a blade, one bit each. -/
def mask : Fin 16 → ℕ := ![0, 1, 2, 4, 8, 3, 5, 9, 6, 10, 12, 7, 11, 13, 14, 15]

/-- How many generators of `a` stand above generator `g`. -/
def above (a g : ℕ) : ℕ := ((List.range 4).filter fun h => g < h && a.testBit h).length

/-- How many swaps sort the generators of `a` followed by those of `b`. -/
def swaps (a b : ℕ) : ℕ := (((List.range 4).filter fun g => b.testBit g).map (above a)).sum

/-- The coefficient of blade `j` in the product of blades `i` and `k`: 1, -1 or 0. -/
def geo (i k j : Fin 16) : ℤ :=
  if (mask i ^^^ mask k == mask j) && !((mask i).testBit 0 && (mask k).testBit 0) then
    if swaps (mask i) (mask k) % 2 = 0 then 1 else -1
  else 0

/-- The sign of a blade under reversal. -/
def revGeo : Fin 16 → ℤ := ![1, 1, 1, 1, 1, -1, -1, -1, -1, -1, -1, -1, -1, -1, -1, 1]

/-- The blade of an action's component. -/
def actionBlade : Fin 8 → Fin 16 := ![0, 5, 6, 7, 8, 9, 10, 15]

/-- The coefficient of `a s * a t` in the sandwich product's entry at result blade `p` and input blade `r`. -/
def sandCoeff (p r : Fin 16) (s t : Fin 8) : ℤ :=
  ∑ q : Fin 16, geo (actionBlade s) q r * (revGeo (actionBlade t) * geo q p (actionBlade t))

/-- A quadratic form, as its monomials `c * a s * a t`. -/
abbrev Form := List (ℤ × Fin 8 × Fin 8)

/-- The value of a form. -/
noncomputable def Form.eval (f : Form) (a : Fin 8 → ℝ) : ℝ := (f.map fun e => (e.1 : ℝ) * (a e.2.1 * a e.2.2)).sum

/-- The symmetric table of a form, each monomial counted in both orders. -/
def Form.both (f : Form) (s t : Fin 8) : ℤ :=
  (f.map fun e => (if s = e.2.1 ∧ t = e.2.2 then e.1 else 0) + (if s = e.2.2 ∧ t = e.2.1 then e.1 else 0)).sum

/-- The form that every point coordinate is multiplied by. -/
def diagForm : Form := [(-1, 1, 1), (-1, 2, 2), (-1, 3, 3), (-1, 7, 7)]

/-- The forms that the plane constant is multiplied by. -/
def planeForm : Fin 3 → Form := ![
  [(-1, 0, 3), (1, 1, 5), (1, 2, 6), (-1, 4, 7)],
  [(1, 0, 2), (-1, 1, 4), (1, 3, 6), (-1, 5, 7)],
  [(-1, 0, 1), (-1, 2, 4), (-1, 3, 5), (-1, 6, 7)]]

/-- Result blade `11 + p` at input blade `11 + q`: the diagonal form where they agree, nothing elsewhere. -/
theorem both_points : ∀ (p q : Fin 3) (s t : Fin 8),
    sandCoeff ⟨11 + p, by omega⟩ ⟨11 + q, by omega⟩ s t + sandCoeff ⟨11 + p, by omega⟩ ⟨11 + q, by omega⟩ t s
      = Form.both (if q = p then diagForm else []) s t := by
  decide +kernel

/-- Result blade `11 + p` at input blade 14: the plane's form. -/
theorem both_plane : ∀ (p : Fin 3) (s t : Fin 8),
    sandCoeff ⟨11 + p, by omega⟩ 14 s t + sandCoeff ⟨11 + p, by omega⟩ 14 t s = Form.both (planeForm p) s t := by
  decide +kernel

/-- The symmetric table of a form, summed against `a s * a t`, is twice its value. -/
theorem sum_both (f : Form) (a : Fin 8 → ℝ) : ∑ s, ∑ t, (f.both s t : ℝ) * (a s * a t) = 2 * f.eval a := by
  induction f with
  | nil => simp [Form.both, Form.eval]
  | cons e f ih =>
    have h : ∀ s t, ((Form.both (e :: f) s t : ℤ) : ℝ) * (a s * a t)
        = ((if s = e.2.1 then (if t = e.2.2 then (e.1 : ℝ) * (a s * a t) else 0) else 0)
            + (if s = e.2.2 then (if t = e.2.1 then (e.1 : ℝ) * (a s * a t) else 0) else 0))
          + (Form.both f s t : ℝ) * (a s * a t) := by
      intro s t
      simp only [Form.both, List.map_cons, List.sum_cons, Int.cast_add, add_mul]
      congr 2
      · by_cases h1 : s = e.2.1 <;> by_cases h2 : t = e.2.2 <;> simp [h1, h2]
      · by_cases h1 : s = e.2.2 <;> by_cases h2 : t = e.2.1 <;> simp [h1, h2]
    simp only [h, Finset.sum_add_distrib, ih]
    simp [Finset.sum_ite_irrel, Form.eval, Finset.sum_ite_eq']
    ring

/-- A sum over pairs with coefficients `C` is the form whose symmetric table is `C s t + C t s`. -/
theorem sum_pairs (C : Fin 8 → Fin 8 → ℤ) (f : Form) (h : ∀ s t, C s t + C t s = f.both s t) (a : Fin 8 → ℝ) :
    ∑ s, ∑ t, (C s t : ℝ) * (a s * a t) = f.eval a := by
  have h1 := sum_both f a
  have h2 : ∑ s, ∑ t, (f.both s t : ℝ) * (a s * a t) = ∑ s, ∑ t, (C s t : ℝ) * (a s * a t) + ∑ s, ∑ t, (C t s : ℝ) * (a s * a t) := by
    rw [← Finset.sum_add_distrib]
    refine Finset.sum_congr rfl fun s _ => ?_
    rw [← Finset.sum_add_distrib]
    refine Finset.sum_congr rfl fun t _ => ?_
    rw [← h s t]; push_cast; ring
  have h3 : ∑ s, ∑ t, (C t s : ℝ) * (a s * a t) = ∑ s, ∑ t, (C s t : ℝ) * (a s * a t) := by
    rw [Finset.sum_comm]
    refine Finset.sum_congr rfl fun s _ => Finset.sum_congr rfl fun t _ => ?_
    ring
  rw [h3] at h2
  linarith

/-- Eight components spread over the sixteen blades. -/
noncomputable def spread (a : Fin 8 → ℝ) (m : Fin 16) : ℝ := ∑ s, if actionBlade s = m then a s else 0

/-- A sum over the sixteen blades against a spread action is the sum over its eight components. -/
theorem sum_spread (a : Fin 8 → ℝ) (g : Fin 16 → ℝ) : ∑ m, spread a m * g m = ∑ s, a s * g (actionBlade s) := by
  simp only [spread, Finset.sum_mul]
  rw [Finset.sum_comm]
  refine Finset.sum_congr rfl fun s _ => ?_
  simp [ite_mul]

/-- The sandwich product's entry at `(p, r)` as a sum over pairs of components. -/
theorem sandwich_pairs (a : Fin 8 → ℝ) (p r : Fin 16) :
    ∑ q, (∑ m, spread a m * (geo m q r : ℝ)) * (∑ m, (spread a m * (revGeo m : ℝ)) * (geo q p m : ℝ))
      = ∑ s, ∑ t, (sandCoeff p r s t : ℝ) * (a s * a t) := by
  have hL : ∀ q, ∑ m, spread a m * (geo m q r : ℝ) = ∑ s, a s * (geo (actionBlade s) q r : ℝ) := fun q => sum_spread a _
  have hR : ∀ q, ∑ m, (spread a m * (revGeo m : ℝ)) * (geo q p m : ℝ)
      = ∑ t, a t * ((revGeo (actionBlade t) : ℝ) * (geo q p (actionBlade t) : ℝ)) := fun q => by
    rw [← sum_spread a fun m => (revGeo m : ℝ) * (geo q p m : ℝ)]
    exact Finset.sum_congr rfl fun m _ => mul_assoc _ _ _
  simp only [hL, hR, Finset.sum_mul_sum, sandCoeff]
  rw [Finset.sum_comm]
  refine Finset.sum_congr rfl fun s _ => ?_
  rw [Finset.sum_comm]
  refine Finset.sum_congr rfl fun t _ => ?_
  push_cast
  rw [Finset.sum_mul]
  refine Finset.sum_congr rfl fun q _ => ?_
  ring

/-- A point's coordinate is multiplied by the diagonal form on the diagonal, by zero off it. -/
theorem sandwich_points (a : Fin 8 → ℝ) (p q : Fin 3) :
    ∑ s, ∑ t, (sandCoeff ⟨11 + p, by omega⟩ ⟨11 + q, by omega⟩ s t : ℝ) * (a s * a t)
      = if q = p then diagForm.eval a else 0 := by
  rw [sum_pairs _ _ (both_points p q)]
  split <;> simp [Form.eval]

/-- The plane constant is multiplied by the plane's form. -/
theorem sandwich_plane (a : Fin 8 → ℝ) (p : Fin 3) :
    ∑ s, ∑ t, (sandCoeff ⟨11 + p, by omega⟩ 14 s t : ℝ) * (a s * a t) = (planeForm p).eval a :=
  sum_pairs _ _ (both_plane p) a

end Cert.PgaLinear
-- ==== Proof.RefArrays.lean ====
/-
  The arrays that the reference builds from its arguments before any product, read at an index: the action and the
  points spread over the sixteen blades, the plane constant put at blade 14.
-/
module

public import proofs.«01_k».proof.Proof.Gen.ReferenceIdeal.Run
public import proofs.«01_k».proof.Proof.Blades
public import Idealize.ShloMosaic.Lib.Pointwise
public import Idealize.ShloMosaic.Lib.Routing.OpsSet
public import Idealize.ShloMosaic.Lib.Routing.OpsPair

@[expose] public section

set_option maxRecDepth 16384

noncomputable section

namespace Cert.PgaLinear

open Idealize.ShloMosaic Cert.ReferenceIdeal Cert.ReferenceIdeal.Gen

/-- The blades that an action's eight components stand at, as index words. -/
def actionWords : IVec S8x1 32 :=
  broadcastInDim S8x1 ![0] bcast_S8_S8x1_0 (select (cmpi .slt ((fun i => lit2 (S8.rowMajor i))) (broadcastInDim S8 ![] bcast_S_S8 (constantI S_ 32 0#32))) (addi ((fun i => lit2 (S8.rowMajor i))) (broadcastInDim S8 ![] bcast_S_S8 (constantI S_ 32 16#32))) ((fun i => lit2 (S8.rowMajor i))))

/-- The blades that a point's three coordinates stand at, as index words. -/
def pointWords : IVec S3x1 32 :=
  broadcastInDim S3x1 ![0] bcast_S3_S3x1_0 (select (cmpi .slt ((fun i => lit3 (S3.rowMajor i))) (broadcastInDim S3 ![] bcast_S_S3 (constantI S_ 32 0#32))) (addi ((fun i => lit3 (S3.rowMajor i))) (broadcastInDim S3 ![] bcast_S_S3 (constantI S_ 32 16#32))) ((fun i => lit3 (S3.rowMajor i))))

/-- As integers, the words that place the action are the numbers of its blades. -/
theorem actionWords_toInt : ∀ s : Fin 8, (actionWords (ix2 s 0)).toInt = ((actionBlade s).val : Int) := by
  intro s; fin_cases s <;> decide +kernel

/-- As integers, the words that place the points are the numbers of the points' blades. -/
theorem pointWords_toInt : ∀ q : Fin 3, (pointWords (ix2 q 0)).toInt = ((11 + q.val : ℕ) : Int) := by
  intro s; fin_cases s <;> decide +kernel

/-- The action spread over the sixteen blades. -/
def actionFull (a2 : FVec Ideal S512x512x8 .f32) : FVec Ideal S512x512x16 .f32 :=
  Host.scatter scatter_S512x512x16_S8x1_S512x512x8_01_2_2_1 (fun _ b => b) (broadcastInDim S512x512x16 ![] bcast_S_S512x512x16 (constant S_ .f32 0x00000000#32)) actionWords a2

/-- The points spread over the sixteen blades. -/
def pointFull (a0 : FVec Ideal S4096x512x3 .f32) : FVec Ideal S4096x512x16 .f32 :=
  Host.scatter scatter_S4096x512x16_S3x1_S4096x512x3_01_2_2_1 (fun _ b => b) (broadcastInDim S4096x512x16 ![] bcast_S_S4096x512x16 (constant S_ .f32 0x00000000#32)) pointWords a0

/-- The points spread over the sixteen blades, with the plane constants at blade 14. -/
def trivector (a0 : FVec Ideal S4096x512x3 .f32) (a3 : FVec Ideal S512x1 .f32) : FVec Ideal S4096x512x16 .f32 :=
  Host.scatter scatter_S4096x512x16_S1_S4096x512_01_2_2_0 (fun _ b => b) (pointFull a0) (broadcastInDim S1 ![] bcast_S_S1 (constantI S_ 32 14#32)) (broadcastInDim S4096x512 ![1] bcast_S512_S4096x512_1 (shapeCast _ a3 shapeCasts_S512x1_S512))

/-- Component `s` of the action of `(o, i)` lands at `(o', i', r)` exactly when the pair is the same and `r` is its blade. -/
theorem action_lands (o o' i i' : Fin 512) (s : Fin 8) (r : Fin 16) :
    scatter_S512x512x16_S8x1_S512x512x8_01_2_2_1.resultIdx? (ix3 o i s) actionWords = some (ix3 o' i' r)
      ↔ o = o' ∧ i = i' ∧ actionBlade s = r := by
  rw [Routing.resultIdx?_eq_some]
  have h0 : scatter_S512x512x16_S8x1_S512x512x8_01_2_2_1.start (ix3 o i s) actionWords 0 = 0 := rfl
  have h1 : scatter_S512x512x16_S8x1_S512x512x8_01_2_2_1.start (ix3 o i s) actionWords 1 = 0 := rfl
  have h2 : scatter_S512x512x16_S8x1_S512x512x8_01_2_2_1.start (ix3 o i s) actionWords 2 = (actionWords (ix2 s 0)).toInt := by
    show (actionWords _).toInt = _
    refine congrArg (fun j => (actionWords j).toInt) (funext fun a => ?_)
    match a with
    | ⟨0, _⟩ => rfl
    | ⟨1, _⟩ => rfl
  have w0 : scatter_S512x512x16_S8x1_S512x512x8_01_2_2_1.window (ix3 o i s) 0 = o.val := rfl
  have w1 : scatter_S512x512x16_S8x1_S512x512x8_01_2_2_1.window (ix3 o i s) 1 = i.val := rfl
  have w2 : scatter_S512x512x16_S8x1_S512x512x8_01_2_2_1.window (ix3 o i s) 2 = 0 := rfl
  rw [actionWords_toInt] at h2
  constructor
  · intro h
    have e0 := h 0; have e1 := h 1; have e2 := h 2
    rw [h0, w0] at e0; rw [h1, w1] at e1; rw [h2, w2] at e2
    change (0 : Int) + (o.val : Int) = (o'.val : Int) at e0
    change (0 : Int) + (i.val : Int) = (i'.val : Int) at e1
    change ((actionBlade s).val : Int) + ((0 : ℕ) : Int) = (r.val : Int) at e2
    exact ⟨Fin.ext (by omega), Fin.ext (by omega), Fin.ext (by omega)⟩
  · rintro ⟨rfl, rfl, rfl⟩ a
    match a with
    | ⟨0, _⟩ => exact (congrArg₂ (· + ·) h0 (congrArg Nat.cast w0)).trans (zero_add _)
    | ⟨1, _⟩ => exact (congrArg₂ (· + ·) h1 (congrArg Nat.cast w1)).trans (zero_add _)
    | ⟨2, _⟩ => exact (congrArg₂ (· + ·) h2 (congrArg Nat.cast w2)).trans (add_zero _)

/-- Coordinate `q` of point `(b, i)` lands at `(b', i', r)` exactly when the pair is the same and `r` is blade `11 + q`. -/
theorem point_lands (b b' : Fin 4096) (i i' : Fin 512) (q : Fin 3) (r : Fin 16) :
    scatter_S4096x512x16_S3x1_S4096x512x3_01_2_2_1.resultIdx? (ix3 b i q) pointWords = some (ix3 b' i' r)
      ↔ b = b' ∧ i = i' ∧ 11 + q.val = r.val := by
  rw [Routing.resultIdx?_eq_some]
  have h0 : scatter_S4096x512x16_S3x1_S4096x512x3_01_2_2_1.start (ix3 b i q) pointWords 0 = 0 := rfl
  have h1 : scatter_S4096x512x16_S3x1_S4096x512x3_01_2_2_1.start (ix3 b i q) pointWords 1 = 0 := rfl
  have h2 : scatter_S4096x512x16_S3x1_S4096x512x3_01_2_2_1.start (ix3 b i q) pointWords 2 = (pointWords (ix2 q 0)).toInt := by
    show (pointWords _).toInt = _
    refine congrArg (fun j => (pointWords j).toInt) (funext fun a => ?_)
    match a with
    | ⟨0, _⟩ => rfl
    | ⟨1, _⟩ => rfl
  have w0 : scatter_S4096x512x16_S3x1_S4096x512x3_01_2_2_1.window (ix3 b i q) 0 = b.val := rfl
  have w1 : scatter_S4096x512x16_S3x1_S4096x512x3_01_2_2_1.window (ix3 b i q) 1 = i.val := rfl
  have w2 : scatter_S4096x512x16_S3x1_S4096x512x3_01_2_2_1.window (ix3 b i q) 2 = 0 := rfl
  rw [pointWords_toInt] at h2
  constructor
  · intro h
    have e0 := h 0; have e1 := h 1; have e2 := h 2
    rw [h0, w0] at e0; rw [h1, w1] at e1; rw [h2, w2] at e2
    change (0 : Int) + (b.val : Int) = (b'.val : Int) at e0
    change (0 : Int) + (i.val : Int) = (i'.val : Int) at e1
    change ((11 + q.val : ℕ) : Int) + ((0 : ℕ) : Int) = (r.val : Int) at e2
    exact ⟨Fin.ext (by omega), Fin.ext (by omega), by omega⟩
  · rintro ⟨rfl, rfl, e⟩ a
    match a with
    | ⟨0, _⟩ => exact (congrArg₂ (· + ·) h0 (congrArg Nat.cast w0)).trans (zero_add _)
    | ⟨1, _⟩ => exact (congrArg₂ (· + ·) h1 (congrArg Nat.cast w1)).trans (zero_add _)
    | ⟨2, _⟩ => exact ((congrArg₂ (· + ·) h2 (congrArg Nat.cast w2)).trans (add_zero _)).trans (congrArg Nat.cast e)

/-- The plane constant of `(b, i)` lands at `(b', i', r)` exactly when the pair is the same and `r` is blade 14. -/
theorem plane_lands (b b' : Fin 4096) (i i' : Fin 512) (r : Fin 16) :
    scatter_S4096x512x16_S1_S4096x512_01_2_2_0.resultIdx? (ix2 b i) (broadcastInDim S1 ![] bcast_S_S1 (constantI S_ 32 14#32)) = some (ix3 b' i' r)
      ↔ b = b' ∧ i = i' ∧ 14 = r.val := by
  rw [Routing.resultIdx?_eq_some]
  generalize hI : (broadcastInDim S1 ![] bcast_S_S1 (constantI S_ 32 14#32) : IVec S1 32) = I
  have hw : ∀ j, (I j).toInt = 14 := by intro j; subst hI; rfl
  have h0 : scatter_S4096x512x16_S1_S4096x512_01_2_2_0.start (ix2 b i) I 0 = 0 := rfl
  have h1 : scatter_S4096x512x16_S1_S4096x512_01_2_2_0.start (ix2 b i) I 1 = 0 := rfl
  have h2 : scatter_S4096x512x16_S1_S4096x512_01_2_2_0.start (ix2 b i) I 2 = 14 := hw _
  have w0 : scatter_S4096x512x16_S1_S4096x512_01_2_2_0.window (ix2 b i) 0 = b.val := rfl
  have w1 : scatter_S4096x512x16_S1_S4096x512_01_2_2_0.window (ix2 b i) 1 = i.val := rfl
  have w2 : scatter_S4096x512x16_S1_S4096x512_01_2_2_0.window (ix2 b i) 2 = 0 := rfl
  constructor
  · intro h
    have e0 := h 0; have e1 := h 1; have e2 := h 2
    rw [h0, w0] at e0; rw [h1, w1] at e1; rw [h2, w2] at e2
    change (0 : Int) + (b.val : Int) = (b'.val : Int) at e0
    change (0 : Int) + (i.val : Int) = (i'.val : Int) at e1
    change (14 : Int) + ((0 : ℕ) : Int) = (r.val : Int) at e2
    exact ⟨Fin.ext (by omega), Fin.ext (by omega), by omega⟩
  · rintro ⟨rfl, rfl, e⟩ a
    match a with
    | ⟨0, _⟩ => exact (congrArg₂ (· + ·) h0 (congrArg Nat.cast w0)).trans (zero_add _)
    | ⟨1, _⟩ => exact (congrArg₂ (· + ·) h1 (congrArg Nat.cast w1)).trans (zero_add _)
    | ⟨2, _⟩ => exact ((congrArg₂ (· + ·) h2 (congrArg Nat.cast w2)).trans (add_zero _)).trans (congrArg Nat.cast e)

/-- At the blade of component `s`, the spread action holds that component. -/
theorem actionFull_blade (a2 : FVec Ideal S512x512x8 .f32) (o i : Fin 512) (s : Fin 8) :
    actionFull a2 (ix3 o i (actionBlade s)) = a2 (ix3 o i s) := by
  refine Routing.scatter_set_hit _ _ _ _ _ _ (fun k hk => ?_) (ix3 o i s) ((action_lands _ _ _ _ _ _).2 ⟨rfl, rfl, rfl⟩)
  obtain ⟨o', i', s', rfl⟩ : ∃ (o' i' : Fin 512) (s' : Fin 8), k = ix3 o' i' s' := ⟨k 0, k 1, k 2, eq_ix3 k⟩
  obtain ⟨rfl, rfl, h⟩ := (action_lands _ _ _ _ _ _).1 hk
  rw [(by decide : Function.Injective actionBlade) h]

/-- At any other blade it holds zero. -/
theorem actionFull_other (a2 : FVec Ideal S512x512x8 .f32) (o i : Fin 512) (r : Fin 16) (hr : ∀ s, actionBlade s ≠ r) :
    actionFull a2 (ix3 o i r) = 0 := by
  refine (Routing.scatter_set_miss _ _ _ _ _ fun k hk => ?_).trans Ideal.ofBits_zero_f32
  obtain ⟨o', i', s', rfl⟩ : ∃ (o' i' : Fin 512) (s' : Fin 8), k = ix3 o' i' s' := ⟨k 0, k 1, k 2, eq_ix3 k⟩
  exact hr _ ((action_lands _ _ _ _ _ _).1 hk).2.2

/-- At blade `11 + q` the spread point holds coordinate `q`. -/
theorem trivector_point (a0 : FVec Ideal S4096x512x3 .f32) (a3 : FVec Ideal S512x1 .f32) (b : Fin 4096) (i : Fin 512) (q : Fin 3) (r : Fin 16)
    (hr : 11 + q.val = r.val) : trivector a0 a3 (ix3 b i r) = a0 (ix3 b i q) := by
  refine (Routing.scatter_set_miss _ _ _ _ _ fun k hk => ?_).trans ?_
  · obtain ⟨b', i', rfl⟩ : ∃ (b' : Fin 4096) (i' : Fin 512), k = ix2 b' i' := ⟨k 0, k 1, eq_ix2 k⟩
    have := ((plane_lands _ _ _ _ _).1 hk).2.2
    omega
  · refine Routing.scatter_set_hit _ _ _ _ _ _ (fun k hk => ?_) (ix3 b i q) ((point_lands _ _ _ _ _ _).2 ⟨rfl, rfl, hr⟩)
    obtain ⟨b', i', q', rfl⟩ : ∃ (b' : Fin 4096) (i' : Fin 512) (q' : Fin 3), k = ix3 b' i' q' := ⟨k 0, k 1, k 2, eq_ix3 k⟩
    obtain ⟨rfl, rfl, h⟩ := (point_lands _ _ _ _ _ _).1 hk
    rw [show q' = q from Fin.ext (by omega)]

/-- At blade 14 it holds the plane constant of the channel. -/
theorem trivector_plane (a0 : FVec Ideal S4096x512x3 .f32) (a3 : FVec Ideal S512x1 .f32) (b : Fin 4096) (i : Fin 512) :
    trivector a0 a3 (ix3 b i 14) = a3 (ix2 i 0) := by
  refine Routing.scatter_set_hit _ _ _ _ _ _ (fun k hk => ?_) (ix2 b i) ((plane_lands _ _ _ _ _).2 ⟨rfl, rfl, rfl⟩)
  obtain ⟨b', i', rfl⟩ : ∃ (b' : Fin 4096) (i' : Fin 512), k = ix2 b' i' := ⟨k 0, k 1, eq_ix2 k⟩
  obtain ⟨rfl, rfl, -⟩ := (plane_lands _ _ _ _ _).1 hk
  pointwise

/-- At any other blade it holds zero. -/
theorem trivector_other (a0 : FVec Ideal S4096x512x3 .f32) (a3 : FVec Ideal S512x1 .f32) (b : Fin 4096) (i : Fin 512) (r : Fin 16)
    (hr : r.val < 11 ∨ 14 < r.val) : trivector a0 a3 (ix3 b i r) = 0 := by
  refine (Routing.scatter_set_miss _ _ _ _ _ fun k hk => ?_).trans
    ((Routing.scatter_set_miss _ _ _ _ _ fun k hk => ?_).trans Ideal.ofBits_zero_f32)
  · obtain ⟨b', i', rfl⟩ : ∃ (b' : Fin 4096) (i' : Fin 512), k = ix2 b' i' := ⟨k 0, k 1, eq_ix2 k⟩
    have := ((plane_lands _ _ _ _ _).1 hk).2.2
    omega
  · obtain ⟨b', i', q', rfl⟩ : ∃ (b' : Fin 4096) (i' : Fin 512) (q' : Fin 3), k = ix3 b' i' q' := ⟨k 0, k 1, k 2, eq_ix3 k⟩
    have := ((point_lands _ _ _ _ _ _).1 hk).2.2
    omega

end Cert.PgaLinear

end
-- ==== Proof.RefValue.lean ====
/-
  What the reference computes, read at an index: the sandwich product of each pair of channels as a sum over blades, and the
  result as a sum over input channels and blades.
-/
module

public import proofs.«01_k».proof.Proof.RefArrays

@[expose] public section

set_option maxRecDepth 16384

noncomputable section

namespace Cert.PgaLinear

open Idealize.ShloMosaic Idealize.SL.Sem Cert.ReferenceIdeal Cert.ReferenceIdeal.Gen

/-- The left products of a spread action `k` with a table `T`, as an array over (blade, output channel, blade, input channel). -/
def leftKernel (k : FVec Ideal S512x512x16 .f32) (T : FVec Ideal S16x16x16 .f32) : FVec Ideal S16x512x16x512 .f32 :=
  transpose S16x512x16x512 [2, 0, 3, 1] (Host.dotGeneral dot_S512x512x16_S16x16x16_S512x512x16x16_2_0_01_12_n_n none k T) transposes_S512x512x16x16_S16x512x16x512_2_0_3_1

/-- The right products of the reversed action, `R` the signs of the reversal. -/
def rightKernel (k : FVec Ideal S512x512x16 .f32) (T : FVec Ideal S16x16x16 .f32) (R : FVec Ideal S16 .f32) : FVec Ideal S16x512x16x512 .f32 :=
  transpose S16x512x16x512 [3, 0, 2, 1] (Host.dotGeneral dot_S512x512x16_S16x16x16_S512x512x16x16_2_2_01_01_n_n none (mulf k (broadcastInDim S512x512x16 ![0, 1, 2] bcast_S1x1x16_S512x512x16_0_1_2 (broadcastInDim S1x1x16 ![2] bcast_S16_S1x1x16_2 R))) T) transposes_S512x512x16x16_S16x512x16x512_3_0_2_1

/-- The products of the two, summed over the blade between them, as an array over (result blade, output channel, blade, input channel). -/
def middleSum (L R : FVec Ideal S16x512x16x512 .f32) : FVec Ideal S16x512x16x512 .f32 :=
  transpose S16x512x16x512 [3, 0, 2, 1] (Host.dotGeneral dot_S16x512x16x512_S16x512x16x512_S512x512x16x16_0_2_2_0_13_13 none L R) transposes_S512x512x16x16_S16x512x16x512_3_0_2_1

/-- The channel mixing of trivectors `X` with sandwich products `S` and weights `W`, the three point blades kept. -/
def mixing (X : FVec Ideal S4096x512x16 .f32) (S : FVec Ideal S16x512x16x512 .f32) (W : FVec Ideal S512x512 .f32) : FVec Ideal S4096x512x3 .f32 :=
  Host.gather gather_S4096x512x16_S3x1_S4096x512x3_01_2_n_n_2_1_40965121 (transpose S4096x512x16 [0, 2, 1] (Host.dotGeneral dot_S4096x512x16_S16x512x16x512_S4096x16x512_12_32_0_01_n_n none X (mulf S (broadcastInDim S16x512x16x512 ![0, 1, 2, 3] bcast_S1x512x1x512_S16x512x16x512_0_1_2_3 (broadcastInDim S1x512x1x512 ![1, 3] bcast_S512x512_S1x512x1x512_1_3 W)))) transposes_S4096x16x512_S4096x512x16_0_2_1) pointWords

/-- The table of the geometric product, as the reference states it. -/
def tableArray : FVec Ideal S16x16x16 .f32 := fun i => FloatOps.ofBits .f32 (lit0 (S16x16x16.rowMajor i))

/-- The signs of the reversal, as the reference states them. -/
def reverseArray : FVec Ideal S16 .f32 := fun i => FloatOps.ofBits .f32 (lit1 (S16.rowMajor i))

/-- The sandwich products of an action. -/
def sandwich (a2 : FVec Ideal S512x512x8 .f32) : FVec Ideal S16x512x16x512 .f32 :=
  middleSum (leftKernel (actionFull a2) tableArray) (rightKernel (actionFull a2) tableArray reverseArray)

/-- The reference's result, a function of its four arguments. -/
def refResult (a0 : FVec Ideal S4096x512x3 .f32) (a1 : FVec Ideal S512x512 .f32) (a2 : FVec Ideal S512x512x8 .f32) (a3 : FVec Ideal S512x1 .f32) :
    FVec Ideal S4096x512x3 .f32 :=
  mixing (trivector a0 a3) (sandwich a2) a1

/-- The run of the reference, its result by name. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v40) = refResult (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ReferenceIdeal.Value.run m ρ

/-- The left kernel at an index: a sum over the action's sixteen components. -/
theorem leftKernel_apply (k : FVec Ideal S512x512x16 .f32) (T : FVec Ideal S16x16x16 .f32) (q : Fin 16) (o : Fin 512) (r : Fin 16) (i : Fin 512) :
    leftKernel k T (ix4 q o r i) = ∑ m : Fin 16, k (ix3 o i m) * T (ix3 m q r) := by
  unfold leftKernel
  pointwise

/-- The right kernel at an index: a sum over the reversed action's sixteen components. -/
theorem rightKernel_apply (k : FVec Ideal S512x512x16 .f32) (T : FVec Ideal S16x16x16 .f32) (R : FVec Ideal S16 .f32) (p : Fin 16) (o : Fin 512)
    (q : Fin 16) (i : Fin 512) :
    rightKernel k T R (ix4 p o q i) = ∑ m : Fin 16, (k (ix3 o i m) * R (ix1 m)) * T (ix3 q p m) := by
  unfold rightKernel
  pointwise

/-- The sandwich at an index: a sum over the middle component. -/
theorem middleSum_apply (L R : FVec Ideal S16x512x16x512 .f32) (p : Fin 16) (o : Fin 512) (r : Fin 16) (i : Fin 512) :
    middleSum L R (ix4 p o r i) = ∑ q : Fin 16, L (ix4 q o r i) * R (ix4 p o q i) := by
  unfold middleSum
  pointwise

/-- Column `p` of the result is read at blade `11 + p`. -/
theorem gather_ix (b : Fin 4096) (o : Fin 512) (p : Fin 3) :
    gather_S4096x512x16_S3x1_S4096x512x3_01_2_n_n_2_1_40965121.operandIdx (ix3 b o p) pointWords = ix3 b o (⟨11 + p.val, by omega⟩ : Fin 16) := by
  have s0 : gather_S4096x512x16_S3x1_S4096x512x3_01_2_n_n_2_1_40965121.start (ix3 b o p) pointWords 0 = 0 := rfl
  have s1 : gather_S4096x512x16_S3x1_S4096x512x3_01_2_n_n_2_1_40965121.start (ix3 b o p) pointWords 1 = 0 := rfl
  have s2 : gather_S4096x512x16_S3x1_S4096x512x3_01_2_n_n_2_1_40965121.start (ix3 b o p) pointWords 2 = min (pointWords (ix2 p 0)).toInt.toNat 15 := by
    show min (pointWords _).toInt.toNat 15 = _
    refine congrArg (fun j => min (pointWords j).toInt.toNat 15) (funext fun a => ?_)
    match a with
    | ⟨0, _⟩ => rfl
    | ⟨1, _⟩ => rfl
  have b0 : ∀ a, gather_S4096x512x16_S3x1_S4096x512x3_01_2_n_n_2_1_40965121.batchCoord (ix3 b o p) a = 0 :=
    fun a => GatherDims.batchCoord_eq_zero _ _ a List.not_mem_nil
  have o0 : gather_S4096x512x16_S3x1_S4096x512x3_01_2_n_n_2_1_40965121.offCoord (ix3 b o p) 0 = b.val := rfl
  have o1 : gather_S4096x512x16_S3x1_S4096x512x3_01_2_n_n_2_1_40965121.offCoord (ix3 b o p) 1 = o.val := rfl
  have o2 : gather_S4096x512x16_S3x1_S4096x512x3_01_2_n_n_2_1_40965121.offCoord (ix3 b o p) 2 = 0 := rfl
  rw [pointWords_toInt, Int.toNat_natCast, Nat.min_eq_left (by omega)] at s2
  funext a
  apply Fin.ext
  unfold GatherDims.operandIdx
  dsimp only
  rw [b0, Nat.add_zero]
  match a with
  | ⟨0, _⟩ => exact (congrArg₂ (· + ·) s0 o0).trans (zero_add _)
  | ⟨1, _⟩ => exact (congrArg₂ (· + ·) s1 o1).trans (zero_add _)
  | ⟨2, _⟩ => exact (congrArg₂ (· + ·) s2 o2).trans (add_zero _)

/-- The mixing at an index: a sum over the input channels and their sixteen components. -/
theorem mixing_apply (X : FVec Ideal S4096x512x16 .f32) (S : FVec Ideal S16x512x16x512 .f32) (W : FVec Ideal S512x512 .f32)
    (b : Fin 4096) (o : Fin 512) (p : Fin 3) :
    mixing X S W (ix3 b o p) = ∑ i : Fin 512, ∑ r : Fin 16, X (ix3 b i r) * (S (ix4 ⟨11 + p.val, by omega⟩ o r i) * W (ix2 o i)) := by
  unfold mixing Host.gather
  rw [gather_ix]
  pointwise

end Cert.PgaLinear

end
-- ==== Proof.RefClosed.lean ====
/-
  The reference's result in closed form, for an action of real numbers: each coordinate of a point times the diagonal form,
  the plane constant times the plane's form, summed over the input channels with the weights.
-/
module

public import proofs.«01_k».proof.Proof.RefValue

@[expose] public section

set_option maxRecDepth 16384

noncomputable section

namespace Cert.PgaLinear

open Idealize.ShloMosaic Cert.ReferenceIdeal Cert.ReferenceIdeal.Gen

/-- The word of a sign. -/
def signWord (z : ℤ) : BitVec 32 := if z = 0 then 0x00000000#32 else if z = 1 then 0x3F800000#32 else 0xBF800000#32

/-- The words of the multiplication table are those of the geometric product's signs. -/
theorem table_words : ∀ i k j : Fin 16, lit0 ⟨(i.val * 16 + k.val) * 16 + j.val, by omega⟩ = signWord (geo i k j) := by
  decide +kernel

/-- The words of the reversal are those of its signs. -/
theorem reverse_words : ∀ i : Fin 16, lit1 i = signWord (revGeo i) := by
  decide +kernel

/-- An entry of the multiplication table is zero or a sign. -/
theorem geo_cases : ∀ i k j : Fin 16, geo i k j = 0 ∨ geo i k j = 1 ∨ geo i k j = -1 := by
  decide +kernel

/-- An entry of the reversal is zero or a sign. -/
theorem revGeo_cases : ∀ i : Fin 16, revGeo i = 0 ∨ revGeo i = 1 ∨ revGeo i = -1 := by
  decide +kernel

/-- A sign's word reads as the sign. -/
theorem ofBits_signWord (z : ℤ) (hz : z = 0 ∨ z = 1 ∨ z = -1) : Ideal.ofBits .f32 (signWord z) = (((z : ℤ) : ℝ) : EReal) := by
  rcases hz with rfl | rfl | rfl
  · exact Ideal.ofBits_zero_f32.trans (by simp)
  · exact Ideal.ofBits_one_f32.trans (by simp)
  · show Ideal.ofBits .f32 0xBF800000#32 = _
    simp [Ideal.ofBits, Ideal.ieee, -EReal.coe_mul, -EReal.coe_neg]; norm_num

/-- The multiplication table as an array holds the geometric product's signs. -/
theorem tableArray_apply (i k j : Fin 16) : tableArray (ix3 i k j) = ((geo i k j : ℝ) : EReal) := by
  have h : S16x16x16.rowMajor (ix3 i k j) = (⟨(i.val * 16 + k.val) * 16 + j.val, by omega⟩ : Fin 4096) :=
    Fin.ext (Shape.rowMajor_val_three _)
  unfold tableArray
  rw [h, table_words]
  exact ofBits_signWord _ (geo_cases i k j)

/-- The reversal as an array holds its signs. -/
theorem reverseArray_apply (i : Fin 16) : reverseArray (ix1 i) = ((revGeo i : ℝ) : EReal) := by
  have h : S16.rowMajor (ix1 i) = (i : Fin 16) := Fin.ext (Shape.rowMajor_val_one _)
  unfold reverseArray
  rw [h, reverse_words]
  exact ofBits_signWord _ (revGeo_cases i)

/-- The sum of the values of real numbers. -/
theorem coe_sum {ι : Type} (s : Finset ι) (f : ι → ℝ) : ∑ i ∈ s, ((f i : ℝ) : EReal) = ((∑ i ∈ s, f i : ℝ) : EReal) :=
  (map_sum (⟨⟨Real.toEReal, EReal.coe_zero⟩, EReal.coe_add⟩ : ℝ →+ EReal) f s).symm

/-- An action of real numbers, spread over the blades. -/
theorem actionFull_real (a2 : FVec Ideal S512x512x8 .f32) (o i : Fin 512) (a : Fin 8 → ℝ) (ha : ∀ s, a2 (ix3 o i s) = ((a s : ℝ) : EReal)) (m : Fin 16) :
    actionFull a2 (ix3 o i m) = ((spread a m : ℝ) : EReal) := by
  by_cases h : ∃ s, actionBlade s = m
  · obtain ⟨s, rfl⟩ := h
    rw [actionFull_blade, ha, spread, Finset.sum_eq_single s]
    · rw [if_pos rfl]
    · intro t _ hts
      exact if_neg fun e => hts ((by decide : Function.Injective actionBlade) e)
    · intro hs; exact absurd (Finset.mem_univ s) hs
  · rw [actionFull_other _ _ _ _ fun s hs => h ⟨s, hs⟩, spread, Finset.sum_eq_zero fun s _ => if_neg fun e => h ⟨s, e⟩, EReal.coe_zero]

/-- The sandwich product of an action of real numbers, as a sum over pairs of components. -/
theorem sandwich_real (a2 : FVec Ideal S512x512x8 .f32) (o i : Fin 512) (a : Fin 8 → ℝ) (ha : ∀ s, a2 (ix3 o i s) = ((a s : ℝ) : EReal)) (p r : Fin 16) :
    sandwich a2 (ix4 p o r i) = ((∑ s, ∑ t, (sandCoeff p r s t : ℝ) * (a s * a t) : ℝ) : EReal) := by
  unfold sandwich
  rw [middleSum_apply, ← sandwich_pairs a p r, ← coe_sum]
  refine Finset.sum_congr rfl fun q _ => ?_
  rw [leftKernel_apply, rightKernel_apply, EReal.coe_mul, ← coe_sum, ← coe_sum]
  refine congrArg₂ (· * ·) (Finset.sum_congr rfl fun m _ => ?_) (Finset.sum_congr rfl fun m _ => ?_)
  · rw [actionFull_real a2 o i a ha, tableArray_apply, EReal.coe_mul]
  · rw [actionFull_real a2 o i a ha, tableArray_apply, reverseArray_apply, EReal.coe_mul, EReal.coe_mul]

/-- What one pair of channels contributes to coordinate `p` of a result point: the coordinate times the weighted diagonal
    form, and the weighted plane constant times the plane's form. -/
def contribution (x w e : EReal) (a : Fin 8 → ℝ) (p : Fin 3) : EReal :=
  x * (w * ((diagForm.eval a : ℝ) : EReal)) + (w * e) * (((planeForm p).eval a : ℝ) : EReal)

/-- The sum over the input blades for one pair of channels. -/
theorem blade_sum (a0 : FVec Ideal S4096x512x3 .f32) (a1 : FVec Ideal S512x512 .f32) (a2 : FVec Ideal S512x512x8 .f32) (a3 : FVec Ideal S512x1 .f32)
    (b : Fin 4096) (o i : Fin 512) (p : Fin 3) (a : Fin 8 → ℝ) (ha : ∀ s, a2 (ix3 o i s) = ((a s : ℝ) : EReal)) :
    ∑ r : Fin 16, trivector a0 a3 (ix3 b i r) * (sandwich a2 (ix4 ⟨11 + p.val, by omega⟩ o r i) * a1 (ix2 o i))
      = contribution (a0 (ix3 b i p)) (a1 (ix2 o i)) (a3 (ix2 i 0)) a p := by
  have hz : ∀ r : Fin 16, r.val < 11 ∨ 14 < r.val →
      trivector a0 a3 (ix3 b i r) * (sandwich a2 (ix4 ⟨11 + p.val, by omega⟩ o r i) * a1 (ix2 o i)) = 0 := fun r hr => by
    rw [trivector_other _ _ _ _ _ hr, zero_mul]
  have hq : ∀ (q : Fin 3) (r : Fin 16) (hr : r = ⟨11 + q.val, by omega⟩),
      trivector a0 a3 (ix3 b i r) * (sandwich a2 (ix4 ⟨11 + p.val, by omega⟩ o r i) * a1 (ix2 o i))
        = if q = p then a0 (ix3 b i p) * (a1 (ix2 o i) * ((diagForm.eval a : ℝ) : EReal)) else 0 := fun q r hr => by
    subst hr
    rw [trivector_point a0 a3 b i q _ rfl, sandwich_real a2 o i a ha, sandwich_points]
    split
    · next h => rw [h, mul_comm (a1 _)]
    · rw [EReal.coe_zero, zero_mul, mul_zero]
  have he : trivector a0 a3 (ix3 b i 14) * (sandwich a2 (ix4 ⟨11 + p.val, by omega⟩ o 14 i) * a1 (ix2 o i))
      = (a1 (ix2 o i) * a3 (ix2 i 0)) * (((planeForm p).eval a : ℝ) : EReal) := by
    rw [trivector_plane, sandwich_real a2 o i a ha, sandwich_plane]
    ac_rfl
  have hout : ∀ r : Fin 16, r ∉ ({11, 12, 13, 14} : Finset (Fin 16)) → r.val < 11 ∨ 14 < r.val := by decide
  rw [← Finset.sum_subset (Finset.subset_univ ({11, 12, 13, 14} : Finset (Fin 16))) fun r _ hr => hz r (hout r hr),
    Finset.sum_insert (by decide), Finset.sum_insert (by decide), Finset.sum_insert (by decide), Finset.sum_singleton, he,
    hq 0 11 rfl, hq 1 12 rfl, hq 2 13 rfl, contribution]
  fin_cases p <;> simp

/-- The reference's result at an index, for an action of real numbers `a o i s`. -/
theorem refResult_real (a0 : FVec Ideal S4096x512x3 .f32) (a1 : FVec Ideal S512x512 .f32) (a2 : FVec Ideal S512x512x8 .f32) (a3 : FVec Ideal S512x1 .f32)
    (a : Fin 512 → Fin 512 → Fin 8 → ℝ) (ha : ∀ o i s, a2 (ix3 o i s) = ((a o i s : ℝ) : EReal)) (b : Fin 4096) (o : Fin 512) (p : Fin 3) :
    refResult a0 a1 a2 a3 (ix3 b o p)
      = ∑ i : Fin 512, contribution (a0 (ix3 b i p)) (a1 (ix2 o i)) (a3 (ix2 i 0)) (a o i) p := by
  unfold refResult
  rw [mixing_apply]
  exact Finset.sum_congr rfl fun i _ => blade_sum a0 a1 a2 a3 b o i p (a o i) (ha o i)

end Cert.PgaLinear

end
-- ==== Proof.Build.lean ====
/-
  What the kernel's first launch computes: at each pair of channels the weighted diagonal form, and for each output channel
  the three sums of weighted plane constants with the plane's forms.
-/
module

public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.PgaLinear

open Idealize.ShloMosaic Idealize.ShloMosaic.TcCoe Cert.KernelIdeal Cert.KernelIdeal.Gen
open Idealize.ShloMosaic.Pipeline (Dat)

/-- The diagonal form as the kernel adds it up. -/
def diagK (a : Fin 8 → EReal) : EReal :=
  0 - a 1 * a 1 + (0 - a 2 * a 2) + (0 - a 3 * a 3) + (0 - a 7 * a 7)

/-- The plane's forms as the kernel adds them up. -/
def planeK : Fin 3 → (Fin 8 → EReal) → EReal := ![
  fun a => 0 - a 0 * a 3 + a 1 * a 5 + a 2 * a 6 + (0 - a 4 * a 7),
  fun a => a 0 * a 2 + (0 - a 1 * a 4) + a 3 * a 6 + (0 - a 5 * a 7),
  fun a => 0 - a 0 * a 1 + (0 - a 2 * a 4) + (0 - a 3 * a 5) + (0 - a 6 * a 7)]

/-- Row `r` of the eight rows that the launch fills: three rows of `g`, then zeros. -/
def threeRows (g : Fin 3 → EReal) (r : Fin 8) : EReal := if h : r.val < 3 then g ⟨r.val, h⟩ else 0

/-- One of the first three rows is the value of `g` there. -/
theorem threeRows_row (g : Fin 3 → EReal) (r : Fin 8) (p : Fin 3) (h : r.val = p.val) : threeRows g r = g p := by
  have hr : r.val < 3 := h ▸ p.isLt
  rw [threeRows, dif_pos hr]
  exact congrArg g (Fin.ext h)

/-- The other rows are zero. -/
theorem threeRows_rest (g : Fin 3 → EReal) (r : Fin 8) (h : 3 ≤ r.val) : threeRows g r = 0 :=
  dif_neg (Nat.not_lt.mpr h)

variable (V : (c : Dev nD) → (b : Ref sig .tc) → Buf (Elt Ideal) ((c : Thread nD τ).loc b))

/-- The eight components that a grid point's block of actions holds for input channel `k` and output channel `l`. -/
def action (c : Dev nD) (t : Fin cfg0.N) (k : Fin 512) (l : Fin 256) : Fin 8 → EReal :=
  fun s => iblk0 V c 0 t (ix3 s k l)

/-- The weight that a grid point's block holds for input channel `k` and output channel `l`. -/
def weight (c : Dev nD) (t : Fin cfg0.N) (k : Fin 512) (l : Fin 256) : EReal := iblk0 V c 1 t (ix2 k l)

/-- The plane constant of input channel `k`. -/
def plane (c : Dev nD) (t : Fin cfg0.N) (k : Fin 512) : EReal := iblk0 V c 2 t (ix2 k 0)

/-- A grid point's block of weights: each weight times the diagonal form of its action. -/
theorem outs_weights (c : Dev nD) (t : Fin cfg0.N) (k : Fin 512) (l : Fin 256) :
    (outsAt0 V c t).1 (ix2 k l) = weight V c t k l * diagK (action V c t k l) := by
  unfold outsAt0
  dsimp only
  frame_out
  pointwise [k0_pay14, k0_pay13, k0_pay12, k0_pay11, k0_pay10, k0_pay6, k0_pay5, k0_pay4, diagK, weight, action]

/-- The sum over the input channels of the weighted plane constants times the plane's form `p`, for output channel `l`. -/
def planeSum (c : Dev nD) (t : Fin cfg0.N) (p : Fin 3) (l : Fin 256) : EReal :=
  ∑ k : Fin 512, weight V c t k l * plane V c t k * planeK p (action V c t k l)

/-- A grid point's block of rows: in row `p` the sums of the weighted plane constants times the plane's form `p`. -/
theorem outs_bias (c : Dev nD) (t : Fin cfg0.N) (y : S8x256.Idx) :
    (outsAt0 V c t).2 y = threeRows (fun p => planeSum V c t p (y 1)) (y 0) := by
  unfold outsAt0
  dsimp only
  frame_out
  canon_tiles x h using (View.cover_of_tiledBy _ ![1, 256] (by sl_kernel_rfl) y)
  · refine .trans ?_ (threeRows_rest _ _ (by rw [h0]; omega)).symm
    pointwise [k0_pay2]
  · refine .trans ?_ (threeRows_row _ _ 2 (h0.trans (by omega))).symm
    refine .trans ?_ (congrArg (planeSum V c t 2) (Fin.ext h1 : (y 1 : Fin 256) = x 1)).symm
    rw [eq_ix2 x]
    pointwise [k0_pay1, k0_pay15, k0_pay18, k0_pay11, k0_pay10, k0_pay9, k0_pay8, k0_pay7, k0_pay6, k0_pay5, k0_pay4, k0_pay3,
      planeSum, planeK, weight, plane, action]
  · refine .trans ?_ (threeRows_row _ _ 1 (h0.trans (by omega))).symm
    refine .trans ?_ (congrArg (planeSum V c t 1) (Fin.ext h1 : (y 1 : Fin 256) = x 1)).symm
    rw [eq_ix2 x]
    pointwise [k0_pay17, k0_pay15, k0_pay18, k0_pay11, k0_pay10, k0_pay9, k0_pay8, k0_pay7, k0_pay6, k0_pay5, k0_pay4, k0_pay3,
      planeSum, planeK, weight, plane, action]
  · refine .trans ?_ (threeRows_row _ _ 0 (h0.trans (by omega))).symm
    refine .trans ?_ (congrArg (planeSum V c t 0) (Fin.ext h1 : (y 1 : Fin 256) = x 1)).symm
    rw [eq_ix2 x]
    pointwise [k0_pay16, k0_pay15, k0_pay18, k0_pay11, k0_pay10, k0_pay9, k0_pay8, k0_pay7, k0_pay6, k0_pay5, k0_pay4, k0_pay3,
      planeSum, planeK, weight, plane, action]

/-- The weight in the array at input channel `k` and output channel `o`. -/
def weightAt (c : Dev nD) (k o : Fin 512) : EReal := V c main_v1 (ix2 k o)

/-- The action's components in the array at input channel `k` and output channel `o`. -/
def actionAt (c : Dev nD) (k o : Fin 512) : Fin 8 → EReal := fun s => V c main_v0 (ix3 s k o)

/-- The plane constant in the array at input channel `k`. -/
def planeAt (c : Dev nD) (k : Fin 512) : EReal := V c main_arg3 (ix2 k 0)

/-- The blocks of actions lie side by side along the output channels. -/
theorem place_action : ∀ t : Fin cfg0.N, win0_0.index t = ![0, 0, (grid0.coords t 0).val] :=
  (by decide +kernel : ∀ t : Fin cfg0.N, _)

/-- The blocks of weights lie side by side along the output channels. -/
theorem place_weight : ∀ t : Fin cfg0.N, win0_1.index t = ![0, (grid0.coords t 0).val] :=
  (by decide +kernel : ∀ t : Fin cfg0.N, _)

/-- The plane constants are one block. -/
theorem place_plane : ∀ t : Fin cfg0.N, win0_2.index t = ![0, 0] :=
  (by decide +kernel : ∀ t : Fin cfg0.N, _)

/-- The blocks of the first result lie side by side along the output channels. -/
theorem place_weights : ∀ t : Fin cfg0.N, win0_3.index t = ![0, (grid0.coords t 0).val] :=
  (by decide +kernel : ∀ t : Fin cfg0.N, _)

/-- The blocks of the second result lie side by side along the output channels. -/
theorem place_rows : ∀ t : Fin cfg0.N, win0_4.index t = ![0, (grid0.coords t 0).val] :=
  (by decide +kernel : ∀ t : Fin cfg0.N, _)

/-- A block's weight is the array's at the channel where the block lies. -/
theorem weight_eq (c : Dev nD) (t : Fin cfg0.N) (k : Fin 512) (l : Fin 256) (o : Fin 512)
    (ho : o.val = (grid0.coords t 0).val * 256 + l.val) : weight V c t k l = weightAt V c k o := by
  unfold weight weightAt
  blk_ext [iblk0, place_weight t, ho]

/-- A block's action is the array's at the channel where the block lies. -/
theorem action_eq (c : Dev nD) (t : Fin cfg0.N) (k : Fin 512) (l : Fin 256) (o : Fin 512)
    (ho : o.val = (grid0.coords t 0).val * 256 + l.val) : action V c t k l = actionAt V c k o := by
  funext s
  unfold action actionAt
  blk_ext [iblk0, place_action t, ho]

/-- A block's plane constant is the array's. -/
theorem plane_eq (c : Dev nD) (t : Fin cfg0.N) (k : Fin 512) : plane V c t k = planeAt V c k := by
  unfold plane planeAt
  blk_ext [iblk0, place_plane t]

/-- The array of weights: each weight times the diagonal form of its action. -/
theorem weights_array (c : Dev nD) : (dat0 V c).arrAt 3 cfg0.N = fun y : S512x512.Idx =>
    weightAt V c (y 0) (y 1) * diagK (actionAt V c (y 0) (y 1)) := by
  refine (dat0 V c).arrAt_eq_of_covers 3 _ (by decide +kernel) fun t hf y => ?_
  blk_simp
  rw [after0_3]
  have h0 : ((win0_3.blk t).view.emb y 0 : Fin 512) = y 0 := Fin.ext (by blk_simp [place_weights t])
  have h1 : ((win0_3.blk t).view.emb y 1).val = (grid0.coords t 0).val * 256 + (y 1).val := by blk_simp [place_weights t]
  refine (congrArg (outsAt0 V c t).1 (eq_ix2 y)).trans ((outs_weights V c t (y 0) (y 1)).trans ?_)
  rw [weight_eq V c t (y 0) (y 1) _ h1, action_eq V c t (y 0) (y 1) _ h1]
  exact congrArg (fun k : Fin 512 => weightAt V c k ((win0_3.blk t).view.emb y 1) *
    diagK (actionAt V c k ((win0_3.blk t).view.emb y 1))) h0.symm

/-- The array of rows: in row `p` the sums of the weighted plane constants times the plane's form `p`. -/
theorem rows_array (c : Dev nD) : (dat0 V c).arrAt 4 cfg0.N = fun y : S8x512.Idx =>
    threeRows (fun p => ∑ k : Fin 512, weightAt V c k (y 1) * planeAt V c k * planeK p (actionAt V c k (y 1))) (y 0) := by
  refine (dat0 V c).arrAt_eq_of_covers 4 _ (by decide +kernel) fun t hf y => ?_
  blk_simp
  rw [after0_4, outs_bias]
  have h0 : ((win0_4.blk t).view.emb y 0 : Fin 8) = y 0 := Fin.ext (by blk_simp [place_rows t])
  have h1 : ((win0_4.blk t).view.emb y 1).val = (grid0.coords t 0).val * 256 + (y 1).val := by blk_simp [place_rows t]
  refine .trans ?_ (congrArg (threeRows _) h0.symm)
  refine congrArg (fun g => threeRows g (y 0)) (funext fun p => Finset.sum_congr rfl fun k _ => ?_)
  rw [weight_eq V c t k (y 1) _ h1, action_eq V c t k (y 1) _ h1, plane_eq V c t k]

end Cert.PgaLinear

end
-- ==== Proof.Matmul.lean ====
/-
  What the kernel's second launch computes: the rows of inputs times the matrix of the first launch, plus its row of sums.
-/
module

public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.PgaLinear

open Idealize.ShloMosaic Idealize.ShloMosaic.TcCoe Cert.KernelIdeal Cert.KernelIdeal.Gen
open Idealize.ShloMosaic.Pipeline (Dat)

variable (V : (c : Dev nD) → (b : Ref sig .tc) → Buf (Elt Ideal) ((c : Thread nD τ).loc b))

/-- The input row `b` of the second launch at position `k`. -/
def inputAt (c : Dev nD) (b : Fin 4096) (k : Fin 1536) : EReal := V c main_v18 (ix2 b k)

/-- The matrix of the second launch at row `k` and column `n`. -/
def matrixAt (c : Dev nD) (k n : Fin 1536) : EReal := V c main_v14 (ix2 k n)

/-- The row that the second launch adds, at column `n`. -/
def shiftAt (c : Dev nD) (n : Fin 1536) : EReal := V c main_v17 (ix2 0 n)

/-- The blocks of input rows lie one below the other. -/
theorem place_input : ∀ t : Fin cfg1.N, win1_0.index t = ![(grid1.coords t 0).val, 0] :=
  (by decide +kernel : ∀ t : Fin cfg1.N, _)

/-- The matrix is one block. -/
theorem place_matrix : ∀ t : Fin cfg1.N, win1_1.index t = ![0, 0] :=
  (by decide +kernel : ∀ t : Fin cfg1.N, _)

/-- The added row is one block. -/
theorem place_shift : ∀ t : Fin cfg1.N, win1_2.index t = ![0, 0] :=
  (by decide +kernel : ∀ t : Fin cfg1.N, _)

/-- The blocks of result rows lie one below the other. -/
theorem place_result : ∀ t : Fin cfg1.N, win1_3.index t = ![(grid1.coords t 0).val, 0] :=
  (by decide +kernel : ∀ t : Fin cfg1.N, _)

/-- A grid point's block of results: the block's row times the matrix, plus the added row. -/
theorem block_result (x0 : S512x1536.Idx → EReal) (x1 : S1536x1536.Idx → EReal) (x2 : S1x1536.Idx → EReal)
    (i : Fin 512) (n : Fin 1536) :
    out1_3 (F := Ideal) x0 x1 x2 (ix2 i n) = (∑ k : Fin 1536, x0 (ix2 i k) * x1 (ix2 k n)) + x2 (ix2 0 n) := by
  unfold out1_3
  frame_out
  pointwise [k1_pay1]

/-- The array of results: the input row times the matrix, plus the added row. -/
theorem result_array (c : Dev nD) : (dat1 V c).arrAt 3 cfg1.N = fun y : S4096x1536.Idx =>
    (∑ k : Fin 1536, inputAt V c (y 0) k * matrixAt V c k (y 1)) + shiftAt V c (y 1) := by
  refine (dat1 V c).arrAt_eq_of_covers 3 _ (by decide +kernel) fun t hf y => ?_
  blk_simp
  rw [after1_3]
  have h0 : ((win1_3.blk t).view.emb y 0).val = (grid1.coords t 0).val * 512 + (y 0).val := by blk_simp [place_result t]
  have h1 : ((win1_3.blk t).view.emb y 1 : Fin 1536) = y 1 := Fin.ext (by blk_simp [place_result t])
  refine (congrArg (out1_3 _ _ _) (eq_ix2 y)).trans ((block_result _ _ _ (y 0) (y 1)).trans ?_)
  refine .trans ?_ (congrArg (fun n : Fin 1536 =>
    (∑ k : Fin 1536, inputAt V c ((win1_3.blk t).view.emb y 0) k * matrixAt V c k n) + shiftAt V c n) h1.symm)
  refine congrArg₂ (fun a b : EReal => a + b) (Finset.sum_congr rfl fun k _ => congrArg₂ (fun a b : EReal => a * b) ?_ ?_) ?_
  · unfold inputAt
    blk_ext [iblk1, place_input t, h0]
  · unfold matrixAt
    blk_ext [iblk1, place_matrix t]
  · unfold shiftAt
    blk_ext [iblk1, place_shift t]

end Cert.PgaLinear

end
-- ==== Proof.KernelValue.lean ====
/-
  What the kernel's result holds at an index, in terms of its arguments.
-/
module

public import proofs.«01_k».proof.Proof.Build
public import proofs.«01_k».proof.Proof.Matmul
public import Idealize.ShloMosaic.Lib.StableHlo.ReadAt

@[expose] public section

set_option maxRecDepth 16384

noncomputable section

namespace Cert.PgaLinear

open Idealize.ShloMosaic Idealize.ShloMosaic.TcCoe Cert.KernelIdeal Cert.KernelIdeal.Gen

variable (m : (ℓ : Loc nD τ sig) → Buf (Elt Ideal) ℓ) (ρ : Dev nD → PrngReg)

/-- The first launch's weights are the second argument, transposed. -/
theorem weightAt_eq (c : Dev nD) (k o : Fin 512) :
    weightAt (V1 m ρ) c k o = m ((c : Thread nD τ).loc main_arg1) (ix2 o k) := by
  show StableHlo.after hostOps0 (W0 m ρ c) (Proc.devRef .tc main_v1) (ix2 k o) = _
  after_reads_at

/-- The first launch's actions are the third argument, transposed. -/
theorem actionAt_eq (c : Dev nD) (k o : Fin 512) :
    actionAt (V1 m ρ) c k o = fun s => m ((c : Thread nD τ).loc main_arg2) (ix3 o k s) := by
  funext s
  show StableHlo.after hostOps0 (W0 m ρ c) (Proc.devRef .tc main_v0) (ix3 s k o) = _
  after_reads_at

/-- The first launch's plane constants are the fourth argument. -/
theorem planeAt_eq (c : Dev nD) (k : Fin 512) :
    planeAt (V1 m ρ) c k = m ((c : Thread nD τ).loc main_arg3) (ix2 k 0) :=
  congrFun (W1_args m ρ c main_arg3 (by decide)) _

/-- The channel of a position in a flattened row. -/
def channel (k : Fin 1536) : Fin 512 := ⟨k.val / 3, by omega⟩

/-- The component of a position in a flattened row. -/
def component (k : Fin 1536) : Fin 3 := ⟨k.val % 3, by omega⟩

/-- The position of a channel's component in a flattened row. -/
def position (o : Fin 512) (p : Fin 3) : Fin 1536 := ⟨o.val * 3 + p.val, by omega⟩

/-- The channel of a position is the one that it was made of. -/
theorem channel_position (o : Fin 512) (p : Fin 3) : channel (position o p) = o :=
  Fin.ext (by simp only [channel, position]; omega)

/-- The component of a position is the one that it was made of. -/
theorem component_position (o : Fin 512) (p : Fin 3) : component (position o p) = p :=
  Fin.ext (by simp only [component, position]; omega)

/-- The unit matrix of the components. -/
def unit3 (r p : Fin 3) : EReal := if r = p then 1 else 0

/-- The comparison of two components, turned into a number, is the unit matrix. -/
theorem compare_components (r p : Fin 3) :
    (FloatOps.uitofp (F := Ideal) FTy.f32
      (IntOp.cmpi CmpIPredicate.eq (IntOp.addi (BitVec.ofNat 32 r.val) 0#32) (BitVec.ofNat 32 p.val)) : EReal) = unit3 r p := by
  have h : IntOp.cmpi CmpIPredicate.eq (IntOp.addi (BitVec.ofNat 32 r.val) 0#32) (BitVec.ofNat 32 p.val)
      = if r = p then 1#1 else 0#1 := by revert r p; decide
  rw [h, unit3]
  split
  · exact congrArg (fun x : ℝ => (x : EReal)) Nat.cast_one
  · exact congrArg (fun x : ℝ => (x : EReal)) Nat.cast_zero

/-- The second launch's inputs are the first argument, its two trailing axes flattened. -/
theorem inputAt_eq (c : Dev nD) (b : Fin 4096) (k : Fin 1536) :
    inputAt (V3 m ρ) c b k = m ((c : Thread nD τ).loc main_arg0) (ix3 b (channel k) (component k)) := by
  show StableHlo.after hostOps1 (W2 m ρ c) (Proc.devRef .tc main_v18) (ix2 b k) = _
  after_reads_at
  exact congrFun (W2_args m ρ c main_arg0 (by decide)) _

/-- The second launch's matrix: the first launch's weight of the two channels times the unit matrix of the two components. -/
theorem matrixAt_eq (c : Dev nD) (k n : Fin 1536) :
    matrixAt (V3 m ρ) c k n = weightAt (V1 m ρ) c (channel k) (channel n) * diagK (actionAt (V1 m ρ) c (channel k) (channel n))
      * unit3 (component k) (component n) := by
  show StableHlo.after hostOps1 (W2 m ρ c) (Proc.devRef .tc main_v14) (ix2 k n) = _
  after_reads_at
  refine congrArg₂ (fun a b : EReal => a * b) ?_ (compare_components (component k) (component n))
  exact (congrFun (W2_arr m ρ c 3) _).trans (congrFun (weights_array (V1 m ρ) c) (ix2 (channel k) (channel n)))

/-- The row that the second launch adds: the first launch's sum for the position's component and channel. -/
theorem shiftAt_eq (c : Dev nD) (n : Fin 1536) :
    shiftAt (V3 m ρ) c n = ∑ k : Fin 512, weightAt (V1 m ρ) c k (channel n) * planeAt (V1 m ρ) c k
      * planeK (component n) (actionAt (V1 m ρ) c k (channel n)) := by
  show StableHlo.after hostOps1 (W2 m ρ c) (Proc.devRef .tc main_v17) (ix2 0 n) = _
  after_reads_at
  refine (congrFun (W2_arr m ρ c 4) _).trans ((congrFun (rows_array (V1 m ρ) c) _).trans ?_)
  exact threeRows_row _ _ (component n) rfl

/-- A row times a column of the unit matrix keeps the column's component. -/
theorem sum_unit3 (f : Fin 3 → EReal) (p : Fin 3) (y : EReal) : ∑ r : Fin 3, f r * (y * unit3 r p) = f p * y := by
  rw [Finset.sum_eq_single p]
  · rw [unit3, if_pos rfl, mul_one]
  · intro r _ hr
    rw [unit3, if_neg hr, mul_zero, mul_zero]
  · exact fun h => absurd (Finset.mem_univ p) h

/-- A flattened row times a column of a matrix that holds a unit matrix per pair of channels. -/
theorem flat_sum (x : Fin 512 → Fin 3 → EReal) (y : Fin 512 → EReal) (p : Fin 3) :
    ∑ k : Fin 1536, x (channel k) (component k) * (y (channel k) * unit3 (component k) p) = ∑ i : Fin 512, x i p * y i :=
  (Fin.sum_univ_mul_divNat_modNat 512 3 fun i r => x i r * (y i * unit3 r p)).trans
    (Finset.sum_congr rfl fun i _ => sum_unit3 (x i) p (y i))

/-- The kernel's result at an index, in terms of its four arguments. -/
def kernelResult (a0 : S4096x512x3.Idx → EReal) (a1 : S512x512.Idx → EReal) (a2 : S512x512x8.Idx → EReal)
    (a3 : S512x1.Idx → EReal) (b : Fin 4096) (o : Fin 512) (p : Fin 3) : EReal :=
  (∑ i : Fin 512, a0 (ix3 b i p) * (a1 (ix2 o i) * diagK fun s => a2 (ix3 o i s)))
    + ∑ i : Fin 512, a1 (ix2 o i) * a3 (ix2 i 0) * planeK p fun s => a2 (ix3 o i s)

/-- What the kernel leaves as its result. -/
theorem result_eq (c : Dev nD) (b : Fin 4096) (o : Fin 512) (p : Fin 3) :
    (W5 m ρ c (Proc.devRef .tc main_v20) : S4096x512x3.Idx → EReal) (ix3 b o p)
      = kernelResult (m ((c : Thread nD τ).loc main_arg0)) (m ((c : Thread nD τ).loc main_arg1))
          (m ((c : Thread nD τ).loc main_arg2)) (m ((c : Thread nD τ).loc main_arg3)) b o p := by
  have h : (W5 m ρ c (Proc.devRef .tc main_v20) : S4096x512x3.Idx → EReal) (ix3 b o p)
      = (W4 m ρ c (Proc.devRef .tc main_v19) : S4096x1536.Idx → EReal) (ix2 b (position o p)) := by
    show StableHlo.after hostOps2 (W4 m ρ c) (Proc.devRef .tc main_v20) (ix3 b o p) = _
    after_reads_at
    rfl
  have h4 : (W4 m ρ c (Proc.devRef .tc main_v19) : S4096x1536.Idx → EReal) (ix2 b (position o p))
      = (∑ k : Fin 1536, inputAt (V3 m ρ) c b k * matrixAt (V3 m ρ) c k (position o p)) + shiftAt (V3 m ρ) c (position o p) :=
    (congrFun (W4_arr m ρ c 3) _).trans (congrFun (result_array (V3 m ρ) c) (ix2 b (position o p)))
  rw [h, h4, shiftAt_eq, channel_position, component_position, kernelResult]
  simp only [inputAt_eq, matrixAt_eq, channel_position, component_position]
  refine (congrArg (fun x : EReal => x + _) (flat_sum (fun i r => m ((c : Thread nD τ).loc main_arg0) (ix3 b i r))
    (fun i => weightAt (V1 m ρ) c i o * diagK (actionAt (V1 m ρ) c i o)) p)).trans ?_
  simp only [weightAt_eq, actionAt_eq, planeAt_eq]

end Cert.PgaLinear

end
-- ==== Proof.Equation.lean ====
/-
  The equation of the two results: for real actions the kernel's result is the reference's.
-/
module

public import proofs.«01_k».proof.Proof.RefClosed
public import proofs.«01_k».proof.Proof.KernelValue

@[expose] public section

noncomputable section

namespace Cert.PgaLinear

open Idealize.ShloMosaic Cert.KernelIdeal

/-- On reals the kernel's diagonal form is the form of the sandwich's diagonal. -/
theorem diagK_real (a : Fin 8 → ℝ) : diagK (fun s => ((a s : ℝ) : EReal)) = ((diagForm.eval a : ℝ) : EReal) := by
  have h : diagForm.eval a = 0 - a 1 * a 1 + (0 - a 2 * a 2) + (0 - a 3 * a 3) + (0 - a 7 * a 7) := by
    simp [Form.eval, diagForm]
    ring
  rw [h, diagK]
  push_cast
  rfl

/-- On reals the kernel's forms of the plane are those of the sandwich. -/
theorem planeK_real (a : Fin 8 → ℝ) (p : Fin 3) :
    planeK p (fun s => ((a s : ℝ) : EReal)) = (((planeForm p).eval a : ℝ) : EReal) := by
  have h0 : (planeForm 0).eval a = 0 - a 0 * a 3 + a 1 * a 5 + a 2 * a 6 + (0 - a 4 * a 7) := by
    simp [Form.eval, planeForm]
    ring
  have h1 : (planeForm 1).eval a = a 0 * a 2 + (0 - a 1 * a 4) + a 3 * a 6 + (0 - a 5 * a 7) := by
    simp [Form.eval, planeForm]
    ring
  have h2 : (planeForm 2).eval a = 0 - a 0 * a 1 + (0 - a 2 * a 4) + (0 - a 3 * a 5) + (0 - a 6 * a 7) := by
    simp [Form.eval, planeForm]
    ring
  fin_cases p
  · refine .trans ?_ (congrArg (fun x : ℝ => (x : EReal)) h0).symm
    push_cast
    rfl
  · refine .trans ?_ (congrArg (fun x : ℝ => (x : EReal)) h1).symm
    push_cast
    rfl
  · refine .trans ?_ (congrArg (fun x : ℝ => (x : EReal)) h2).symm
    push_cast
    rfl

/-- For real actions the kernel's result is the reference's. -/
theorem results_equal (a0 : S4096x512x3.Idx → EReal) (a1 : S512x512.Idx → EReal) (a2 : S512x512x8.Idx → EReal)
    (a3 : S512x1.Idx → EReal) (a : Fin 512 → Fin 512 → Fin 8 → ℝ) (ha : ∀ o i s, a2 (ix3 o i s) = ((a o i s : ℝ) : EReal))
    (b : Fin 4096) (o : Fin 512) (p : Fin 3) :
    kernelResult a0 a1 a2 a3 b o p = refResult a0 a1 a2 a3 (ix3 b o p) := by
  rw [refResult_real a0 a1 a2 a3 a ha, kernelResult]
  simp only [ha, diagK_real, planeK_real, contribution, Finset.sum_add_distrib]

end Cert.PgaLinear

end
-- ==== Proof.Finite.lean ====
/-
  The precondition: an action whose absolute values all lie below infinity is real.
-/
module

public import proofs.«01_k».proof.Pre_finite_action
public import Idealize.ShloMosaic.Lib.Pointwise
public import Idealize.ShloMosaic.Lib.ReduceAll
public import Idealize.ShloMosaic.Lib.Decide

@[expose] public section

noncomputable section

namespace Cert.PgaLinear

open Idealize.ShloMosaic Cert.Pre_finite_action

/-- The shape relations that the precondition's operations take. -/
theorem finite_facts : Cert.Pre_finite_action.Facts where
  bcast_S_S512x512x8 := by decide
  reducesTo_S512x512x8_S_d0_1_2 := by decide
  h_S_ := by decide

/-- An extended real whose absolute value lies below infinity is a real. -/
theorem coe_toReal_of_abs_lt (x : EReal) (h : max x (-x) < ⊤) : x = ((x.toReal : ℝ) : EReal) := by
  have h1 : x ≠ ⊤ := fun e => by simp [e] at h
  have h2 : x ≠ ⊥ := fun e => by simp [e] at h
  exact (EReal.coe_toReal h1 h2).symm

/-- Where the precondition holds, each component of the action is a real. -/
theorem action_real [Facts] (a0 : FVec Ideal S4096x512x3 .f32) (a1 : FVec Ideal S512x512 .f32) (a2 : FVec Ideal S512x512x8 .f32)
    (a3 : FVec Ideal S512x1 .f32) (h : fn (F := Ideal) a0 a1 a2 a3 = fun _ => 1#1) (i : S512x512x8.Idx) :
    a2 i = (((a2 i : EReal).toReal : ℝ) : EReal) := by
  have h0 := congrFun h ix0
  dsimp only [fn] at h0
  have hi := Host.reduce_andi_all _ _ _ _ _ h0 i
  have htop : Ideal.ofBits .f32 0x7F800000#32 = ⊤ := by simp [Ideal.ofBits, Ideal.ieee]
  have hlt : Ideal.cmp .olt (max (a2 i) (-(a2 i))) (Ideal.ofBits .f32 0x7F800000#32) = 1#1 := hi
  rw [htop] at hlt
  refine coe_toReal_of_abs_lt _ ?_
  by_contra hn
  simp only [Ideal.cmp, decide_eq_false hn] at hlt
  exact absurd hlt (by decide)

end Cert.PgaLinear

end
-- ==== Proof.KernelRun.lean ====
/-
  The kernel's run with its result: the array that it leaves is what the last boundary of its segments holds.
-/
module

public import proofs.«01_k».proof.Proof.Gen.KernelIdeal.Frame

@[expose] public section

set_option maxRecDepth 16384

noncomputable section

namespace Cert.PgaLinear

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the kernel ends with the result at the last boundary's contents and with the arguments as launched. -/
theorem kernel_run : θ_run defs (onTc (τ := τ) (main (F := F))) ⟨m, fun _ => 0, ρ⟩ (fun r => ∀ c : Dev nD,
      r.2.mem ((c.tc : Thread nD τ).loc main_v20) = W5 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c =>
      ⟨h c _ (mem_uc main_v20 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.PgaLinear

end
-- ==== Proof.lean ====
/-
  The claim: each program's frame, the idealization, and the equality of the kernel's and the reference's results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import proofs.«01_k».proof.Proof.Finite
public import proofs.«01_k».proof.Proof.KernelRun
public import Idealize.ShloMosaic.Adequacy
public import Idealize.ShloMosaic.Init

@[expose] public section

noncomputable section

namespace Cert.Proof

open Idealize.ShloMosaic Idealize.SL.Sem Cert.PgaLinear

/-- The reference ends with its arguments as launched and with every counter at zero. -/
theorem reference_frame : Cert.quiescent_ReferenceIdeal (hReferenceIdeal := Cert.ReferenceIdeal.Gen.facts) :=
  fun m g _ => (θ_run _ _ _).mono (fun r h => ⟨fun c => (h c).2, sem_eq_zero_of_no_sems (by decide) r.2⟩) (ref_run m g)

/-- Under the precondition the kernel's result, as its run leaves it, is the reference's result of the same arguments. -/
theorem kernel_result (m : (ℓ : Loc Cert.KernelIdeal.nD Cert.KernelIdeal.τ Cert.KernelIdeal.sig) → Buf (Elt Ideal) ℓ)
    (ρ : Dev Cert.KernelIdeal.nD → PrngReg)
    (h : Cert.Pre_KernelIdeal_finite_action (hPre_finite_action := finite_facts) m) (c : Dev Cert.KernelIdeal.nD) :
    Cert.KernelIdeal.Gen.W5 m ρ c (Proc.devRef .tc Cert.KernelIdeal.main_v20)
      = refResult (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  letI := finite_facts
  have hreal := action_real _ _ _ _ (h c)
  funext y
  rw [eq_ix3 y]
  exact (result_eq m ρ c (y 0) (y 1) (y 2)).trans
    (results_equal _ _ _ _ (fun o i s => _) (fun o i s => hreal (ix3 o i s)) (y 0) (y 1) (y 2))

/-- Under the precondition the kernel and the reference leave equal results and unchanged arguments. -/
theorem equal_results : Cert.algebraic_KernelIdeal_ReferenceIdeal_pre_finite_action (hKernelIdeal := Cert.KernelIdeal.Gen.facts)
    (hReferenceIdeal := Cert.ReferenceIdeal.Gen.facts) (hPre_finite_action := finite_facts) := by
  intro m g m' g' hpre hargs
  refine ⟨fun c => Cert.KernelIdeal.Gen.W5 m g c (Proc.devRef .tc Cert.KernelIdeal.main_v20), kernel_run m g, ?_⟩
  refine (θ_run _ _ _).mono ?_ (ref_run m' g')
  intro r hr c
  obtain ⟨h, h0, h1, h2, h3⟩ := hr c
  obtain ⟨e0, e1, e2, e3⟩ := hargs c
  refine ⟨?_, h0, h1, h2, h3⟩
  rw [h, e0, e1, e2, e3]
  exact (kernel_result m g hpre c).symm

/-- The claim. -/
theorem claim : Cert.Claim :=
  ⟨Cert.Kernel.Gen.facts, Cert.KernelIdeal.Gen.facts, Cert.ReferenceIdeal.Gen.facts, finite_facts,
    fun m g _ => Cert.Kernel.Gen.frame m g, fun m g _ => Cert.KernelIdeal.Gen.frame m g,
    fun m g _ => Cert.KernelIdeal.Gen.frame m g, reference_frame, fun m g _ => reference_frame m g trivial,
    trivial, equal_results⟩

end Cert.Proof

end
